-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x7424 : Shape := ⟨3, ![8, 3072, 7424]⟩
abbrev S8x3072x1 : Shape := ⟨3, ![8, 3072, 1]⟩
abbrev S7424x1664 : Shape := ⟨2, ![7424, 1664]⟩
abbrev S1664 : Shape := ⟨1, ![1664]⟩
abbrev S24576x7424 : Shape := ⟨2, ![24576, 7424]⟩
abbrev S24576x1 : Shape := ⟨2, ![24576, 1]⟩
abbrev S1x1664 : Shape := ⟨2, ![1, 1664]⟩
abbrev S24576x1664 : Shape := ⟨2, ![24576, 1664]⟩
abbrev S512x7424 : Shape := ⟨2, ![512, 7424]⟩
abbrev S512x1 : Shape := ⟨2, ![512, 1]⟩
abbrev S512x1664 : Shape := ⟨2, ![512, 1664]⟩
abbrev S8x3072x1664 : Shape := ⟨3, ![8, 3072, 1664]⟩

abbrev nBuf : Space → Nat
  | .hbm => 11
  | .vmem => 9
  | .smem => 0
  | _ => 0

abbrev bufTy : (tb : Table) → Fin (tcTables nBuf tb) → BufTy
  | .hbm, ⟨0, _⟩ => ⟨S8x3072x7424, .fp8e4m3⟩
  | .hbm, ⟨1, _⟩ => ⟨S8x3072x1, .f32⟩
  | .hbm, ⟨2, _⟩ => ⟨S7424x1664, .fp8e4m3⟩
  | .hbm, ⟨3, _⟩ => ⟨S1664, .f32⟩
  | .hbm, ⟨4, _⟩ => ⟨S1664, .bf16⟩
  | .hbm, ⟨5, _⟩ => ⟨S24576x7424, .fp8e4m3⟩
  | .hbm, ⟨6, _⟩ => ⟨S24576x1, .f32⟩
  | .hbm, ⟨7, _⟩ => ⟨S1x1664, .f32⟩
  | .hbm, ⟨8, _⟩ => ⟨S1x1664, .bf16⟩
  | .hbm, ⟨9, _⟩ => ⟨S24576x1664, .bf16⟩
  | .hbm, ⟨10, _⟩ => ⟨S8x3072x1664, .bf16⟩
  | .local _ .vmem, ⟨0, _⟩ => ⟨S512x7424, .fp8e4m3⟩
  | .local _ .vmem, ⟨1, _⟩ => ⟨S512x7424, .fp8e4m3⟩
  | .local _ .vmem, ⟨2, _⟩ => ⟨S512x1, .f32⟩
  | .local _ .vmem, ⟨3, _⟩ => ⟨S512x1, .f32⟩
  | .local _ .vmem, ⟨4, _⟩ => ⟨S7424x1664, .fp8e4m3⟩
  | .local _ .vmem, ⟨5, _⟩ => ⟨S1x1664, .f32⟩
  | .local _ .vmem, ⟨6, _⟩ => ⟨S1x1664, .bf16⟩
  | .local _ .vmem, ⟨7, _⟩ => ⟨S512x1664, .bf16⟩
  | .local _ .vmem, ⟨8, _⟩ => ⟨S512x1664, .bf16⟩
  | _, _ => ⟨S8x3072x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7424 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7424x1664 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x3072x7424 : Shape := ⟨3, ![8, 3072, 7424]⟩
abbrev S8x3072x1 : Shape := ⟨3, ![8, 3072, 1]⟩
abbrev S7424x1664 : Shape := ⟨2, ![7424, 1664]⟩
abbrev S1664 : Shape := ⟨1, ![1664]⟩
abbrev S8x3072x1664 : Shape := ⟨3, ![8, 3072, 1664]⟩
abbrev S1x1x1664 : Shape := ⟨3, ![1, 1, 1664]⟩

abbrev nBuf : Space → Nat
  | .hbm => 6
  | .vmem => 6
  | .smem => 0
  | _ => 0

abbrev bufTy : (tb : Table) → Fin (tcTables nBuf tb) → BufTy
  | .hbm, ⟨0, _⟩ => ⟨S8x3072x7424, .fp8e4m3⟩
  | .hbm, ⟨1, _⟩ => ⟨S8x3072x1, .f32⟩
  | .hbm, ⟨2, _⟩ => ⟨S7424x1664, .fp8e4m3⟩
  | .hbm, ⟨3, _⟩ => ⟨S1664, .f32⟩
  | .hbm, ⟨4, _⟩ => ⟨S1664, .bf16⟩
  | .hbm, ⟨5, _⟩ => ⟨S8x3072x1664, .bf16⟩
  | .local _ .vmem, ⟨0, _⟩ => ⟨S8x3072x7424, .fp8e4m3⟩
  | .local _ .vmem, ⟨1, _⟩ => ⟨S8x3072x1, .f32⟩
  | .local _ .vmem, ⟨2, _⟩ => ⟨S7424x1664, .fp8e4m3⟩
  | .local _ .vmem, ⟨3, _⟩ => ⟨S1664, .f32⟩
  | .local _ .vmem, ⟨4, _⟩ => ⟨S1664, .bf16⟩
  | .local _ .vmem, ⟨5, _⟩ => ⟨S8x3072x1664, .bf16⟩
  | _, _ => ⟨S8x3072x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x3072x7424 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7424x1664 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one call of each body computes, at one index of its result, over the extended reals: the inner product of a
   row of codes with a column of codes, times the row's scale, times the column's scale, plus the column's bias. -/
module

public import proofs.«01_k».proof.Proof.Gen.KernelIdeal.Skeleton
public import proofs.«01_k».proof.Proof.Gen.KernelIdeal
public import proofs.«01_k».proof.Proof.Gen.ReferenceIdeal.Skeleton
public import proofs.«01_k».proof.Proof.Gen.ReferenceIdeal
public import Idealize.ShloMosaic.PureOps.Ideal
public import Idealize.ShloMosaic.Lib.Pointwise

@[expose] public section

noncomputable section

namespace Cert.Proof

open Idealize.ShloMosaic
open scoped BigOperators

/-- One output element: the inner product of a token's codes and a channel's codes, scaled and shifted. -/
def element (x w : Fin 7424 → EReal) (xs ws b : EReal) : EReal := (∑ k, x k * w k) * xs * ws + b

/-- The kernel's body on one block of 512 tokens, at token `r` of the block and channel `j`. -/
theorem kernel_block_apply (x : Vec Ideal Cert.KernelIdeal.S512x7424 .fp8e4m3) (w : Vec Ideal Cert.KernelIdeal.S7424x1664 .fp8e4m3)
    (xs : Vec Ideal Cert.KernelIdeal.S512x1 .f32) (ws : Vec Ideal Cert.KernelIdeal.S1x1664 .f32) (b : Vec Ideal Cert.KernelIdeal.S1x1664 .bf16)
    (r : Fin 512) (j : Fin 1664) :
    Cert.KernelIdeal.Gen.k0_pay1 x w xs ws b (ix2 r j)
      = element (fun k => x (ix2 r k)) (fun k => w (ix2 k j)) (xs (ix2 r 0)) (ws (ix2 0 j)) (b (ix2 0 j)) := by
  unfold Cert.KernelIdeal.Gen.k0_pay1 element
  pointwise

/-- The reference's body on the whole arrays, at batch `p`, token `s` and channel `j`. -/
theorem reference_apply (x : Vec Ideal Cert.ReferenceIdeal.S8x3072x7424 .fp8e4m3) (w : Vec Ideal Cert.ReferenceIdeal.S7424x1664 .fp8e4m3)
    (xs : Vec Ideal Cert.ReferenceIdeal.S8x3072x1 .f32) (ws : Vec Ideal Cert.ReferenceIdeal.S1664 .f32) (b : Vec Ideal Cert.ReferenceIdeal.S1664 .bf16)
    (p : Fin 8) (s : Fin 3072) (j : Fin 1664) :
    Cert.ReferenceIdeal.Gen.k0_pay1 x w xs ws b (ix3 p s j)
      = element (fun k => x (ix3 p s k)) (fun k => w (ix2 k j)) (xs (ix3 p s 0)) (ws (ix1 j)) (b (ix1 j)) := by
  unfold Cert.ReferenceIdeal.Gen.k0_pay1 element
  pointwise

end Cert.Proof

end
-- ==== Proof.Array.lean ====
/- What the kernel's two-dimensional output array holds after the pipeline: 48 grid points, point `t` computing tokens
   `512 t` to `512 t + 511` at every channel, the blocks together covering the array. -/
module

public import proofs.«01_k».proof.Proof.Block
public import proofs.«01_k».proof.Proof.Gen.KernelIdeal.Frame
public import Idealize.ShloMosaic.Lib.Pipeline.Value

@[expose] public section

noncomputable section

namespace Cert.Proof

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The layer over flattened tokens: each element from its token's row and its channel's column. -/
def flat (x : Vec Ideal S24576x7424 .fp8e4m3) (xs : Vec Ideal S24576x1 .f32) (w : Vec Ideal S7424x1664 .fp8e4m3)
    (ws : Vec Ideal S1x1664 .f32) (b : Vec Ideal S1x1664 .bf16) : Vec Ideal S24576x1664 .bf16 :=
  fun i => element (fun k => x (ix2 (i 0) k)) (fun k => w (ix2 k (i 1))) (xs (ix2 (i 0) 0)) (ws (ix2 0 (i 1))) (b (ix2 0 (i 1)))

theorem origin : (![0, 0] : Fin 2 → Nat) = fun _ => 0 := funext fun a => by fin_cases a <;> rfl

/-- The body's one store through the whole block leaves its payload, and its loads read the whole input blocks. -/
theorem out_eq (x : Vec Ideal S512x7424 .fp8e4m3) (xs : Vec Ideal S512x1 .f32) (w : Vec Ideal S7424x1664 .fp8e4m3)
    (ws : Vec Ideal S1x1664 .f32) (b : Vec Ideal S1x1664 .bf16) : out0_5 x xs w ws b = k0_pay1 x w xs ws b := by
  unfold out0_5
  rw [View.canon_unit_zero origin, View.ld_unit_zero (S := S512x7424) origin _ x, View.ld_unit_zero (S := S7424x1664) origin _ w,
    View.ld_unit_zero (S := S512x1) origin _ xs, View.ld_unit_zero (S := S1x1664) origin _ ws, View.ld_unit_zero (S := S1x1664) origin _ b]

/-! ## Where each window's block lies -/

/-- The token windows (codes, scales, output) move with the grid point along the first axis only. -/
theorem index_token : ∀ t : Fin cfg0.N,
    win0_0.index t (0 : Fin 2) = t.val ∧ win0_0.index t (1 : Fin 2) = 0 ∧ win0_1.index t (0 : Fin 2) = t.val ∧ win0_1.index t (1 : Fin 2) = 0
      ∧ win0_5.index t (0 : Fin 2) = t.val ∧ win0_5.index t (1 : Fin 2) = 0 :=
  (by decide +kernel : ∀ t : Fin grid0.N, _)

/-- The channel windows (weight codes, weight scales, bias) stay at the origin. -/
theorem index_channel : ∀ t : Fin cfg0.N,
    win0_2.index t (0 : Fin 2) = 0 ∧ win0_2.index t (1 : Fin 2) = 0 ∧ win0_3.index t (0 : Fin 2) = 0 ∧ win0_3.index t (1 : Fin 2) = 0
      ∧ win0_4.index t (0 : Fin 2) = 0 ∧ win0_4.index t (1 : Fin 2) = 0 :=
  (by decide +kernel : ∀ t : Fin grid0.N, _)

/-- Row `r` of point `t`'s block is this token. -/
def token (t : Fin cfg0.N) (r : Fin 512) : Fin 24576 := ⟨t.val * 512 + r.val, by have h : t.val < 48 := t.isLt; omega⟩

theorem emb_codes (t : Fin cfg0.N) (r : Fin 512) (k : Fin 7424) :
    ((cfg0.win 0).blk t).view.emb (ix2 r k : S512x7424.Idx) = (ix2 (token t r) k : S24576x7424.Idx) := by
  obtain ⟨e0, e1, -⟩ := index_token t
  funext a; apply Fin.ext
  match a with
  | ⟨0, _⟩ => show win0_0.index t (0 : Fin 2) * 512 + 1 * r.val = t.val * 512 + r.val; omega
  | ⟨1, _⟩ => show win0_0.index t (1 : Fin 2) * 7424 + 1 * k.val = k.val; omega

theorem emb_scale (t : Fin cfg0.N) (r : Fin 512) :
    ((cfg0.win 1).blk t).view.emb (ix2 r 0 : S512x1.Idx) = (ix2 (token t r) 0 : S24576x1.Idx) := by
  obtain ⟨-, -, e0, e1, -⟩ := index_token t
  funext a; apply Fin.ext
  match a with
  | ⟨0, _⟩ => show win0_1.index t (0 : Fin 2) * 512 + 1 * r.val = t.val * 512 + r.val; omega
  | ⟨1, _⟩ => show win0_1.index t (1 : Fin 2) * 1 + 1 * 0 = 0; omega

theorem emb_weight (t : Fin cfg0.N) (j : S7424x1664.Idx) : ((cfg0.win 2).blk t).view.emb j = j := by
  obtain ⟨e0, e1, -⟩ := index_channel t
  funext a; apply Fin.ext
  match a with
  | ⟨0, _⟩ => show win0_2.index t (0 : Fin 2) * 7424 + 1 * (j 0).val = (j 0).val; omega
  | ⟨1, _⟩ => show win0_2.index t (1 : Fin 2) * 1664 + 1 * (j 1).val = (j 1).val; omega

theorem emb_wscale (t : Fin cfg0.N) (j : S1x1664.Idx) : ((cfg0.win 3).blk t).view.emb j = j := by
  obtain ⟨-, -, e0, e1, -⟩ := index_channel t
  funext a; apply Fin.ext
  match a with
  | ⟨0, _⟩ => show win0_3.index t (0 : Fin 2) * 1 + 1 * (j 0).val = (j 0).val; omega
  | ⟨1, _⟩ => show win0_3.index t (1 : Fin 2) * 1664 + 1 * (j 1).val = (j 1).val; omega

theorem emb_bias (t : Fin cfg0.N) (j : S1x1664.Idx) : ((cfg0.win 4).blk t).view.emb j = j := by
  obtain ⟨-, -, -, -, e0, e1⟩ := index_channel t
  funext a; apply Fin.ext
  match a with
  | ⟨0, _⟩ => show win0_4.index t (0 : Fin 2) * 1 + 1 * (j 0).val = (j 0).val; omega
  | ⟨1, _⟩ => show win0_4.index t (1 : Fin 2) * 1664 + 1 * (j 1).val = (j 1).val; omega

theorem emb_out (t : Fin cfg0.N) (r : Fin 512) (j : Fin 1664) :
    ((cfg0.win 5).blk t).view.emb (ix2 r j : S512x1664.Idx) = (ix2 (token t r) j : S24576x1664.Idx) := by
  obtain ⟨-, -, -, -, e0, e1⟩ := index_token t
  funext a; apply Fin.ext
  match a with
  | ⟨0, _⟩ => show win0_5.index t (0 : Fin 2) * 512 + 1 * r.val = t.val * 512 + r.val; omega
  | ⟨1, _⟩ => show win0_5.index t (1 : Fin 2) * 1664 + 1 * j.val = j.val; omega

/-! ## The input blocks, element by element -/

theorem iblk_codes (c : Dev nD) (t : Fin cfg0.N) (r : Fin 512) (k : Fin 7424) :
    (iblk m c 0 t : Vec Ideal S512x7424 .fp8e4m3) (ix2 r k) = (V m c main_v0 : Vec Ideal S24576x7424 .fp8e4m3) (ix2 (token t r) k) := by
  rw [← emb_codes]; rfl

theorem iblk_scale (c : Dev nD) (t : Fin cfg0.N) (r : Fin 512) :
    (iblk m c 1 t : Vec Ideal S512x1 .f32) (ix2 r 0) = (V m c main_v1 : Vec Ideal S24576x1 .f32) (ix2 (token t r) 0) := by
  rw [← emb_scale]; rfl

theorem iblk_weight (c : Dev nD) (t : Fin cfg0.N) (j : S7424x1664.Idx) :
    (iblk m c 2 t : Vec Ideal S7424x1664 .fp8e4m3) j = (V m c main_arg2 : Vec Ideal S7424x1664 .fp8e4m3) j := by
  conv_rhs => rw [← emb_weight t j]
  rfl

theorem iblk_wscale (c : Dev nD) (t : Fin cfg0.N) (j : S1x1664.Idx) :
    (iblk m c 3 t : Vec Ideal S1x1664 .f32) j = (V m c main_v2 : Vec Ideal S1x1664 .f32) j := by
  conv_rhs => rw [← emb_wscale t j]
  rfl

theorem iblk_bias (c : Dev nD) (t : Fin cfg0.N) (j : S1x1664.Idx) :
    (iblk m c 4 t : Vec Ideal S1x1664 .bf16) j = (V m c main_v3 : Vec Ideal S1x1664 .bf16) j := by
  conv_rhs => rw [← emb_bias t j]
  rfl

/-! ## The output array -/

/-- The layer over the arrays as the region finds them. -/
def flatV (c : Dev nD) : Vec Ideal S24576x1664 .bf16 :=
  flat (V m c main_v0) (V m c main_v1) (V m c main_arg2) (V m c main_v2) (V m c main_v3)

/-- The body at point `t`, row `r`, channel `j`, is the layer at token `512 t + r` and channel `j`. -/
theorem body_apply (c : Dev nD) (t : Fin cfg0.N) (r : Fin 512) (j : Fin 1664) :
    out0_5 (iblk m c 0 t) (iblk m c 1 t) (iblk m c 2 t) (iblk m c 3 t) (iblk m c 4 t) (ix2 r j) = flatV m c (ix2 (token t r) j) := by
  rw [out_eq]
  refine (kernel_block_apply _ _ _ _ _ r j).trans ?_
  simp only [iblk_codes, iblk_scale, iblk_weight, iblk_wscale, iblk_bias]
  rfl

/-- What point `t` writes back is block `t` of the layer. -/
theorem flushed_eq (c : Dev nD) (t : Fin cfg0.N) :
    (dats m 0 c).flushed 5 t = ((cfg0.win 5).blk t).view.read (Elt Ideal) (flatV m c) := by
  show (cfg0.win 5).cut (grid0.coords t) ((dats m 0 c).after 5 t) = _
  rw [after0_5]
  funext i
  show out0_5 (iblk m c 0 t) (iblk m c 1 t) (iblk m c 2 t) (iblk m c 3 t) (iblk m c 4 t) i = flatV m c (((cfg0.win 5).blk t).view.emb i)
  obtain ⟨r, j, rfl⟩ : ∃ (r : Fin 512) (j : Fin 1664), i = (ix2 r j : S512x1664.Idx) :=
    ⟨i 0, i 1, by funext a; fin_cases a <;> rfl⟩
  exact (body_apply m c t r j).trans (congrArg (flatV m c) (emb_out t r j).symm)

/-- Every index of the output array is in some point's block: token `n` in point `n / 512`'s. -/
theorem covered (i : S24576x1664.Idx) :
    ∃ t : Fin cfg0.N, (cfg0.win 5).flush t = true ∧ i ∈ ((cfg0.win 5).blk t).view.set := by
  have h0 : (i 0).val < 24576 := (i 0).isLt
  let t : Fin cfg0.N := ⟨(i 0).val / 512, show (i 0).val / 512 < 48 by omega⟩
  let r : Fin 512 := ⟨(i 0).val % 512, by omega⟩
  have hi : (ix2 (token t r) (i 1) : S24576x1664.Idx) = i := by
    funext a; apply Fin.ext
    match a with
    | ⟨0, _⟩ => show (i 0).val / 512 * 512 + (i 0).val % 512 = (i 0).val; omega
    | ⟨1, _⟩ => rfl
  refine ⟨t, flush0_5 t, ?_⟩
  have h := ((cfg0.win 5).blk t).view.emb_mem_set (ix2 r (i 1) : S512x1664.Idx)
  exact ((emb_out t r (i 1)).trans hi) ▸ h

/-- The output array after the pipeline is the layer over the arrays as the region finds them. -/
theorem array_eq (c : Dev nD) : (dats m 0 c).arrAt 5 cfg0.N = flatV m c :=
  (dats m 0 c).arrAt_eq_of_cover 5 (flatV m c) (fun t _ => flushed_eq m c t) covered

end Cert.Proof

end
-- ==== Proof.Whole.lean ====
/- What the kernel returns: the two-dimensional output array re-laid by batch and token, its inputs being the arguments
   flattened by the reshapes before the pipeline; and that this is the reference's body on the arguments. -/
module

public import proofs.«01_k».proof.Proof.Array

@[expose] public section

noncomputable section

namespace Cert.Proof

open Idealize.ShloMosaic Idealize.ShloMosaic.TcCoe Idealize.SL.Sem
open Cert.KernelIdeal Cert.KernelIdeal.Gen
open Idealize.ShloMosaic.Pipeline (Dat)

/-! ## The equation over plain arrays -/

/-- Token `s` of batch `p`, flattened. -/
def flatToken (p : Fin 8) (s : Fin 3072) : Fin 24576 := ⟨p.val * 3072 + s.val, by omega⟩

section Reshapes
variable {α : Type}

theorem reshape_codes (x : S8x3072x7424.Idx → α) (p : Fin 8) (s : Fin 3072) (k : Fin 7424) :
    shapeCast S24576x7424 x shapeCasts_S8x3072x7424_S24576x7424 (ix2 (flatToken p s) k) = x (ix3 p s k) := by
  refine shapeCast_apply x _ _ _ ?_
  rw [rowMajor_val3 _ (3072 * 7424) 7424 rfl rfl, rowMajor_val2 _ 7424 rfl]
  show p.val * (3072 * 7424) + s.val * 7424 + k.val = (p.val * 3072 + s.val) * 7424 + k.val
  omega

theorem reshape_scale (x : S8x3072x1.Idx → α) (p : Fin 8) (s : Fin 3072) :
    shapeCast S24576x1 x shapeCasts_S8x3072x1_S24576x1 (ix2 (flatToken p s) 0) = x (ix3 p s 0) := by
  refine shapeCast_apply x _ _ _ ?_
  rw [rowMajor_val3 _ (3072 * 1) 1 rfl rfl, rowMajor_val2 _ 1 rfl]
  show p.val * (3072 * 1) + s.val * 1 + 0 = (p.val * 3072 + s.val) * 1 + 0
  omega

theorem reshape_channel (x : S1664.Idx → α) (j : Fin 1664) :
    shapeCast S1x1664 x shapeCasts_S1664_S1x1664 (ix2 0 j) = x (ix1 j) := by
  refine shapeCast_apply x _ _ _ ?_
  rw [rowMajor_val1, rowMajor_val2 _ 1664 rfl]
  show j.val = 0 * 1664 + j.val
  omega

theorem reshape_out (x : S24576x1664.Idx → α) (p : Fin 8) (s : Fin 3072) (j : Fin 1664) :
    shapeCast S8x3072x1664 x shapeCasts_S24576x1664_S8x3072x1664 (ix3 p s j) = x (ix2 (flatToken p s) j) := by
  refine shapeCast_apply x _ _ _ ?_
  rw [rowMajor_val3 _ (3072 * 1664) 1664 rfl rfl, rowMajor_val2 _ 1664 rfl]
  show (p.val * 3072 + s.val) * 1664 + j.val = p.val * (3072 * 1664) + s.val * 1664 + j.val
  omega

end Reshapes

/-- The layer over flattened tokens, re-laid by batch and token, is the reference's body on the arguments. -/
theorem flat_eq_reference (x : Vec Ideal S8x3072x7424 .fp8e4m3) (xs : Vec Ideal S8x3072x1 .f32) (w : Vec Ideal S7424x1664 .fp8e4m3)
    (ws : Vec Ideal S1664 .f32) (b : Vec Ideal S1664 .bf16) :
    shapeCast S8x3072x1664
        (flat (shapeCast S24576x7424 x shapeCasts_S8x3072x7424_S24576x7424) (shapeCast S24576x1 xs shapeCasts_S8x3072x1_S24576x1) w
          (shapeCast S1x1664 ws shapeCasts_S1664_S1x1664) (shapeCast S1x1664 b shapeCasts_S1664_S1x1664))
        shapeCasts_S24576x1664_S8x3072x1664
      = Cert.ReferenceIdeal.Gen.k0_pay1 x w xs ws b := by
  funext i
  obtain ⟨p, s, j, rfl⟩ : ∃ (p : Fin 8) (s : Fin 3072) (j : Fin 1664), i = (ix3 p s j : S8x3072x1664.Idx) :=
    ⟨i 0, i 1, i 2, by funext a; fin_cases a <;> rfl⟩
  refine (reshape_out _ p s j).trans (Eq.trans ?_ (reference_apply x w xs ws b p s j).symm)
  show element (fun k => shapeCast S24576x7424 x _ (ix2 (flatToken p s) k)) (fun k => w (ix2 k j))
    (shapeCast S24576x1 xs _ (ix2 (flatToken p s) 0)) (shapeCast S1x1664 ws _ (ix2 0 j)) (shapeCast S1x1664 b _ (ix2 0 j)) = _
  simp only [reshape_codes, reshape_scale, reshape_channel]

/-! ## The reshapes around the pipeline -/

variable (m : (ℓ : Loc nD τ sig) → Buf (Elt Ideal) ℓ)

/-- The pipeline finds the token codes flattened. -/
theorem entry_codes (c : Dev nD) : V m c main_v0 = shapeCast S24576x7424 (m ((c : Thread nD τ).loc main_arg0)) shapeCasts_S8x3072x7424_S24576x7424 := by
  show StableHlo.after [_, _, _, _] _ _ = _
  after_results
  rfl

/-- The pipeline finds the token scales flattened. -/
theorem entry_scale (c : Dev nD) : V m c main_v1 = shapeCast S24576x1 (m ((c : Thread nD τ).loc main_arg1)) shapeCasts_S8x3072x1_S24576x1 := by
  show StableHlo.after [_, _, _, _] _ _ = _
  after_results
  rfl

/-- The pipeline finds the weight scales as one row. -/
theorem entry_wscale (c : Dev nD) : V m c main_v2 = shapeCast S1x1664 (m ((c : Thread nD τ).loc main_arg3)) shapeCasts_S1664_S1x1664 := by
  show StableHlo.after [_, _, _, _] _ _ = _
  after_results
  rfl

/-- The pipeline finds the bias as one row. -/
theorem entry_bias (c : Dev nD) : V m c main_v3 = shapeCast S1x1664 (m ((c : Thread nD τ).loc main_arg4)) shapeCasts_S1664_S1x1664 := by
  show StableHlo.after [_, _, _, _] _ _ = _
  after_results
  rfl

/-- The result is the output array re-laid by batch and token. -/
theorem tail_eq (c : Dev nD) :
    Pipeline.afterTail₀ cfgs (dats m) 0 (V0 m) [hostOps1] c main_v5
      = shapeCast S8x3072x1664 ((dats m 0 c).arrAt 5 cfg0.N) shapeCasts_S24576x1664_S8x3072x1664 := by
  unfold Pipeline.afterTail₀
  show StableHlo.after [_] _ _ = _
  after_results
  have h : Pipeline.withArrays (cfgs 0).spec c (V0 m c) (fun w => (dats m 0 c).arrAt w (cfgs 0).N) (Proc.devRef .tc main_v4)
      = (dats m 0 c).arrAt 5 cfg0.N :=
    Pipeline.withArrays_arr spec0 (by decide) c (V0 m c) (fun w => (dats m 0 c).arrAt w cfg0.N) 5
  rw [h]
  rfl

/-- The kernel's result is the reference's body on the arguments. -/
theorem result_eq (c : Dev nD) :
    Pipeline.afterTail₀ cfgs (dats m) 0 (V0 m) [hostOps1] c main_v5
      = Cert.ReferenceIdeal.Gen.k0_pay1 (m ((c : Thread nD τ).loc main_arg0)) (m ((c : Thread nD τ).loc main_arg2))
          (m ((c : Thread nD τ).loc main_arg1)) (m ((c : Thread nD τ).loc main_arg3)) (m ((c : Thread nD τ).loc main_arg4)) := by
  rw [tail_eq, array_eq]
  unfold flatV
  rw [entry_codes, entry_scale, entry_wscale, entry_bias, V_main_arg2]
  exact flat_eq_reference _ _ _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Whole
public import Idealize.ShloMosaic.Adequacy
public import Idealize.ShloMosaic.Init

@[expose] public section

noncomputable section

namespace Cert.Proof

open Idealize.ShloMosaic Idealize.ShloMosaic.TcCoe Idealize.SL.Sem

/-- The idealized kernel's run: its result is the reference's body on the arguments, and the arguments are unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v5)
            = Cert.ReferenceIdeal.Gen.k0_pay1 (F := Ideal) (m ((c.tc : Thread Cert.KernelIdeal.nD Cert.KernelIdeal.τ).loc Cert.KernelIdeal.main_arg0))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  θ_run_mono (θ_run_and (Cert.KernelIdeal.Gen.run_main m g) (Cert.KernelIdeal.Gen.unchanged m g)) fun r h c =>
    ⟨((h.1 c).2 Cert.KernelIdeal.main_v5 (Pipeline.mem_restRefs_of Cert.KernelIdeal.main_v5 (by decide) (by decide))).trans (result_eq m c), h.2 c⟩

/-- From equal arguments the idealized kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, kernel_run m g, θ_run_mono (Cert.ReferenceIdeal.Value.run m' g') fun r h c => ⟨(h c).1.trans ?_, (h c).2⟩⟩
  obtain ⟨e0, e1, e2, e3, e4⟩ := hargs c
  show Cert.ReferenceIdeal.Gen.k0_pay1 (F := Ideal) _ _ _ _ _ = _
  rw [e0, e1, e2, e3, e4]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
